-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S100000x128 : Shape := ⟨2, ![100000, 128]⟩
abbrev S_ : Shape := ⟨0, ![]⟩
abbrev S98976x128 : Shape := ⟨2, ![98976, 128]⟩

abbrev nBuf : Space → Nat
  | .hbm => 3
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

abbrev grid0 : Pipeline.Grid := .none
-- ==== ReferenceIdeal.lean ====
abbrev S1024x128 : Shape := ⟨2, ![1024, 128]⟩
abbrev S100000x128 : Shape := ⟨2, ![100000, 128]⟩
abbrev S98976x128 : Shape := ⟨2, ![98976, 128]⟩

abbrev nBuf : Space → Nat
  | .hbm => 4
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S98976x128, .f32⟩
  | .hbm, ⟨3, _⟩ => ⟨S100000x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdealRun.lean ====
/-
  What `KernelIdeal` computes, for any float values: every execution terminates, the result array holds the stack
  shifted down by 1024 rows with the 1024 new rows below it, the two arguments are as they were and every semaphore
  counter is at zero (`run_main`). The kernel has no grid and no window: its three arrays stay in HBM, and it moves
  all of the result by two copies of its own. So the body's invariant is the three arrays at stated contents and the
  two copies' counters at zero, before the one grid point (the result at its contents at the launch) and after it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Pipeline.ValueKit.Geometry
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

/-! ## The value -/

/-- The stack shifted: row `r` of the result is row `r + 1024` of the old stack while there is one, and row
    `r - 98976` of the new rows after that. -/
def shifted (rows : S1024x128.Idx → Elt F .f32) (stack : S100000x128.Idx → Elt F .f32) : S100000x128.Idx → Elt F .f32 :=
  fun j => if h : (j 0).val < 98976
    then stack (fun | ⟨0, _⟩ => ⟨(j 0).val + 1024, by show _ < 100000; omega⟩ | ⟨1, _⟩ => j 1)
    else rows (fun | ⟨0, _⟩ => ⟨(j 0).val - 98976, by have : (j 0).val < 100000 := (j 0).isLt; show _ < 1024; omega⟩ | ⟨1, _⟩ => j 1)

/-! ## The arrays and the copies' ends -/

/-- The new rows, the stack and the result: whole arrays in HBM. -/
abbrev rowsM : Memref sig .tc .hbm S1024x128 .f32 := Memref.whole main_arg0
abbrev stackM : Memref sig .tc .hbm S100000x128 .f32 := Memref.whole main_arg1
abbrev outM : Memref sig .tc .hbm S100000x128 .f32 := Memref.whole main_v0

/-- Rows `0 ≤ r < 98976` and rows `98976 ≤ r < 100000` of the result, which the two copies write, and rows
    `1024 ≤ r < 100000` of the stack, which the first copy reads. -/
abbrev headRect : Rect S100000x128 := Rect.unit (s := S100000x128) ![0, 0] S98976x128.size inb_S100000x128_S98976x128_0_0
abbrev tailRect : Rect S100000x128 := Rect.unit (s := S100000x128) ![98976, 0] S1024x128.size inb_S100000x128_S1024x128_98976_0
abbrev keptRect : Rect S100000x128 := Rect.unit (s := S100000x128) ![1024, 0] S98976x128.size inb_S100000x128_S98976x128_1024_0

/-- An array of core `c` held whole at contents `f`. -/
abbrev pt (c : Dev nD) {s : Shape} (M : Memref sig .tc .hbm s .f32) (f : Buf (Elt F) (M.view.loc (c : Thread nD τ))) : sProp 𝕄 :=
  M.view.loc (c : Thread nD τ) ↦{fullShare} f

/-- The result array after the two copies have landed, over whatever it held before. -/
abbrev landed (rows : S1024x128.Idx → Elt F .f32) (stack fo : S100000x128.Idx → Elt F .f32) : S100000x128.Idx → Elt F .f32 :=
  outM.view.writes (Elt F) fo [⟨tailRect, rows⟩, ⟨headRect, fun x => stack (keptRect.emb x)⟩]

/-- A row of the second range holds the new row the second copy brings it. -/
theorem shifted_tail (rows : S1024x128.Idx → Elt F .f32) (stack : S100000x128.Idx → Elt F .f32) (x : tailRect.shape.Idx) :
    rows x = shifted rows stack (tailRect.emb x) := by
  have e0 : (tailRect.emb x 0).val = 98976 + (x 0).val := ValueKit.rect_emb_unit_val _ _ _ x 0
  have e1 : (tailRect.emb x 1).val = 0 + (x 1).val := ValueKit.rect_emb_unit_val _ _ _ x 1
  unfold shifted
  rw [dif_neg (by omega)]
  refine congrArg rows (funext fun | ⟨0, _⟩ => Fin.ext ?_ | ⟨1, _⟩ => Fin.ext ?_)
  · show (x 0).val = (tailRect.emb x 0).val - 98976; omega
  · show (x 1).val = (tailRect.emb x 1).val; omega

/-- A row of the first range holds the stack's row the first copy brings it, 1024 rows further down the stack. -/
theorem shifted_head (rows : S1024x128.Idx → Elt F .f32) (stack : S100000x128.Idx → Elt F .f32) (x : headRect.shape.Idx) :
    stack (keptRect.emb x) = shifted rows stack (headRect.emb x) := by
  have hx : (x 0).val < 98976 := (x 0).isLt
  have e0 : (headRect.emb x 0).val = 0 + (x 0).val := ValueKit.rect_emb_unit_val _ _ _ x 0
  have e1 : (headRect.emb x 1).val = 0 + (x 1).val := ValueKit.rect_emb_unit_val _ _ _ x 1
  have k0 : (keptRect.emb x 0).val = 1024 + (x 0).val := ValueKit.rect_emb_unit_val (s := S100000x128) ![1024, 0] S98976x128.size inb_S100000x128_S98976x128_1024_0 x 0
  have k1 : (keptRect.emb x 1).val = 0 + (x 1).val := ValueKit.rect_emb_unit_val (s := S100000x128) ![1024, 0] S98976x128.size inb_S100000x128_S98976x128_1024_0 x 1
  unfold shifted
  rw [dif_pos (by omega)]
  refine congrArg stack (funext fun | ⟨0, _⟩ => Fin.ext ?_ | ⟨1, _⟩ => Fin.ext ?_)
  · show (keptRect.emb x 0).val = (headRect.emb x 0).val + 1024; omega
  · show (keptRect.emb x 1).val = (headRect.emb x 1).val; omega

/-- Every element of the result is in one of the two ranges. -/
theorem mem_tail_or_head (j : S100000x128.Idx) : j ∈ tailRect.set ∨ j ∈ headRect.set := by
  have h0 : (j 0).val < 100000 := (j 0).isLt
  have h1 : (j 1).val < 128 := (j 1).isLt
  rcases Nat.lt_or_ge (j 0).val 98976 with h | h
  · refine Or.inr (Rect.mem_set_unit.mpr fun | ⟨0, _⟩ => ?_ | ⟨1, _⟩ => ?_)
    · show 0 ≤ (j 0).val ∧ (j 0).val < 0 + 98976; omega
    · show 0 ≤ (j 1).val ∧ (j 1).val < 0 + 128; omega
  · refine Or.inl (Rect.mem_set_unit.mpr fun | ⟨0, _⟩ => ?_ | ⟨1, _⟩ => ?_)
    · show 98976 ≤ (j 0).val ∧ (j 0).val < 98976 + 1024; omega
    · show 0 ≤ (j 1).val ∧ (j 1).val < 0 + 128; omega

/-- What the two copies leave is the shifted stack, whatever the result array held before. -/
theorem landed_eq (rows : S1024x128.Idx → Elt F .f32) (stack fo : S100000x128.Idx → Elt F .f32) :
    landed rows stack fo = shifted rows stack := by
  have h := View.read_writes_apply_of_pieces outM.view fo (shifted rows stack)
    [⟨tailRect, rows⟩, ⟨headRect, fun x => stack (keptRect.emb x)⟩]
    (fun p hp => by
      rcases List.mem_cons.mp hp with rfl | hp
      · exact shifted_tail rows stack
      · obtain rfl := List.mem_singleton.mp hp
        exact shifted_head rows stack)
  have hr : outM.view.read (Elt F) (landed rows stack fo) = shifted rows stack := funext fun j => by
    refine h j ?_
    rcases mem_tail_or_head j with hj | hj
    · exact ⟨⟨tailRect, rows⟩, List.mem_cons_self, hj⟩
    · exact ⟨⟨headRect, fun x => stack (keptRect.emb x)⟩, List.mem_cons_of_mem _ List.mem_cons_self, hj⟩
  exact (View.read_whole (Val := Elt F) main_v0 (landed rows stack fo)).symm.trans hr

/-! ## The body's run -/

set_option sl_exec.dmaWindow true in
/-- From the three arrays whole, the two copies' counters at zero and the core's record of its waits, the kernel body
    runs to the shifted stack in the result, the other two arrays as they were, and the counters at zero again. -/
theorem body_run (c : Dev nD) (rows : S1024x128.Idx → Elt F .f32) (stack fo : S100000x128.Idx → Elt F .f32)
    (W : Waits sig Unit) (K : PUnit → sProp 𝕄) :
    iprop(pt c rowsM rows ∗ pt c stackM stack ∗ pt c outM fo
        ∗ semVal ((c : Thread nD τ), SemLoc.dma 0) 0 ∗ semVal ((c : Thread nD τ), SemLoc.dma 1) 0
        ∗ owes (c : Thread nD τ) 0 W
        ∗ (iprop(pt c rowsM rows ∗ pt c stackM stack ∗ pt c outM (shifted rows stack)
            ∗ semVal ((c : Thread nD τ), SemLoc.dma 0) 0 ∗ semVal ((c : Thread nD τ), SemLoc.dma 1) 0
            ∗ (∃ W', owes (c : Thread nD τ) 0 W')) -∗ K ⟨⟩))
      ⊢ wp frame (wpE (defs₀ (F := F)) Variants.none c none) Set.univ
          (cc0__shift_kernel rowsM (Memref.isWhole_whole _) stackM (Memref.isWhole_whole _) outM (Memref.isWhole_whole _)
            cc0_scratch0 cc0_scratch1) K := by
  rw [← landed_eq rows stack fo, cc0__shift_kernel_eq_skeleton]
  unfold cc0__shift_kernel_skel
  iintro ⟨Hx, Hs, Ho, Hq0, Hq1, HW, Hk⟩
  sl_exec
  sl_step
  iapply Hk
  isplitl [Hx]; · iexact Hx
  isplitl [Hs]; · iexact Hs
  isplitl [Ho]; · iexact Ho
  isplitl [Hq0]; · iexact Hq0
  isplitl [Hq1]; · iexact Hq1
  iexists _; iexact HW

/-! ## The launch -/

variable (m : (ℓ : Loc nD τ sig) → Buf (Elt F) ℓ) (ρ : Dev nD → PrngReg)

/-- The arrays at the launch. -/
abbrev before (c : Dev nD) (b : Ref sig .tc) : Buf (Elt F) ((c : Thread nD τ).loc b) := m ((c : Thread nD τ).loc b)

/-- The arrays at the end: the result at the shifted stack, everything else as at the launch. -/
def final (c : Dev nD) : (b : Ref sig .tc) → Buf (Elt F) ((c : Thread nD τ).loc b) :=
  Function.update (before m c) main_v0 (shifted (before m c main_arg0) (before m c main_arg1))

theorem final_arg0 (c : Dev nD) : final m c main_arg0 = before m c main_arg0 := Function.update_of_ne (by decide) _ _
theorem final_arg1 (c : Dev nD) : final m c main_arg1 = before m c main_arg1 := Function.update_of_ne (by decide) _ _
theorem final_v0 (c : Dev nD) : final m c main_v0 = shifted (before m c main_arg0) (before m c main_arg1) :=
  Function.update_self _ _ _

/-- The arrays the body works on: all three. -/
def arrays : Finset (Ref sig .tc) := {main_arg0, main_arg1, main_v0}
theorem arrays_sub : arrays ⊆ Pipeline.restRefs sig cfg0.spec := by decide

/-- The two copies' semaphores. -/
abbrev copySem : Fin 2 → SemLoc sig := ![SemLoc.dma 0, SemLoc.dma 1]
theorem copySem_facts : Pipeline.OwnSemFacts cfg0.spec copySem := by decide

/-- What the body holds before and after its run, spelt out: the three arrays whole at contents `f`, the two counters at
    zero, and the core's generator register. -/
theorem ends_eq (c : Dev nD) (f : (b : Ref sig .tc) → Buf (Elt F) ((c : Thread nD τ).loc b)) :
    (Pipeline.Ends cfg0.spec copySem arrays c f : sProp 𝕄)
      = iprop((pt c rowsM (f main_arg0) ∗ pt c stackM (f main_arg1) ∗ pt c outM (f main_v0))
          ∗ (semVal ((c : Thread nD τ), SemLoc.dma 0) 0 ∗ semVal ((c : Thread nD τ), SemLoc.dma 1) 0)
          ∗ BI.emp ∗ ∃ r, prngReg c r) := by
  unfold Pipeline.Ends Pipeline.routed
  rw [BI.bigSep_eq_bigSepL_of_eq [main_arg0, main_arg1, main_v0] (by decide) (by decide),
    Pipeline.ownSems0_eq_of_list c copySem [0, 1] (by decide) (by decide), scopedRest0_eq]
  rfl

/-- The proof data of the one pipeline on core `c`: no window, nothing owed, and the invariant the three arrays at their
    launch contents before the one grid point and at their final contents after it. -/
def dats (_ : Fin 1) (c : Dev nD) : Dat τ (Elt F) Unit ℕ (Pipeline.UC sig nD τ) ℕ cfg0 c where
  A w := w.elim0
  after w := w.elim0
  Φ t := Pipeline.Ends cfg0.spec copySem arrays c (if t.val = 0 then before m c else final m c)
  q _ := fullShare
  owed _ := 0

/-- The body as the pipeline calls it at its one grid point, from the launch contents to the final ones. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  have ht : t.val = 0 := congrArg Fin.val (fin_N0 t)
  unfold bodyAt0
  rw [show (dats m 0 c).Φ t.castSucc = Pipeline.Ends cfg0.spec copySem arrays c (before m c) from
      congrArg (Pipeline.Ends cfg0.spec copySem arrays c) (if_pos ht),
    show (dats m 0 c).Φ t.succ = Pipeline.Ends cfg0.spec copySem arrays c (final m c) from
      congrArg (Pipeline.Ends cfg0.spec copySem arrays c) (if_neg (Nat.succ_ne_zero _)),
    ends_eq, ends_eq, final_arg0, final_arg1, final_v0]
  unfold Dat.owesAt Pipeline.owesWithin
  rw [show (dats m 0 c).owed t.castSucc = 0 from rfl, show (dats m 0 c).owed t.succ = 0 from rfl]
  iintro ⟨⟨⟨Hx, Hs, Ho⟩, ⟨Hq0, Hq1⟩, He, Hg⟩, ⟨%W, -, HW⟩⟩
  iapply (body_run c (before m c main_arg0) (before m c main_arg1) (before m c main_v0) W _)
  isplitl [Hx]; · iexact Hx
  isplitl [Hs]; · iexact Hs
  isplitl [Ho]; · iexact Ho
  isplitl [Hq0]; · iexact Hq0
  isplitl [Hq1]; · iexact Hq1
  isplitl [HW]; · iexact HW
  iintro ⟨Hx, Hs, Ho, Hq0, Hq1, ⟨%W', HW⟩⟩
  isplitl [Hx Hs Ho Hq0 Hq1 He Hg]
  · isplitl [Hx Hs Ho]
    · isplitl [Hx]; · iexact Hx
      isplitl [Hs]; · iexact Hs
      iexact Ho
    isplitl [Hq0 Hq1]
    · isplitl [Hq0]; · iexact Hq0
      iexact Hq1
    isplitl [He]; · iexact He
    iexact Hg
  iexists W'; isplitr; · ipureintro; exact fun _ _ => Or.inl trivial
  iexact HW

/-- The kernel row the pipeline calls is the printed body on the three whole arrays. -/
theorem defs₀_row (t : Fin cfg0.N) : defs₀ (F := F) .tc cfg0.body (cfg0.bodyArgs t (cfg0.slots t)) = bodyAt0 t := by
  unfold defs₀; rw [Defs.onTc_tc]

/-- The pipeline's obligation for the body: with no window it is `sound_body`. -/
theorem body_obligation (c : Dev nD) : BodyObligation (dats (F := F) m 0 c) (defs₀ (F := F)) Variants.none () Set.univ := fun t => by
  rw [defs₀_row]
  have hw : ∀ Φ : Fin cfg0.W → sProp 𝕄, bigSep Finset.univ Φ = BI.emp := fun Φ => bigSep_empty
  rw [hw, hw]
  exact triple_restated (sound_body m c t) rfl (sep_congr_right sep_emp).1 fun _ => (sep_congr_right sep_emp).2

theorem hmain : Pipeline.HMain (Ix := Unit) (Name := ℕ) (U := Pipeline.UC sig nD τ) (Lvl := ℕ) cfgs 0 defs₀ Variants.none m (main (F := F)) (before m) :=
  Pipeline.hmain_region cfgs 0 defs₀ Variants.none m main fun c => (main_chain c).trans rfl

set_option backward.isDefEq.respectTransparency.types false in
/-- From any memory with every counter at zero, every weakly fair execution of @main terminates: on every device the
    result holds the shifted stack of that device's arguments, the arguments are unchanged, and every counter is at zero. -/
theorem run_main : θ_run defs (onTc (τ := τ) (main (F := F))) ⟨m, fun _ => 0, ρ⟩ (fun r => (∀ c : Dev nD,
      r.2.mem ((c.tc : Thread nD τ).loc main_v0) = shifted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_routed (Q' := _) cfgs (dats m) (0 : Fin 1) launch0 copySem_facts defs₀ Variants.none m ρ main
    (hbody := fun c => (body_obligation m c).loose) (hshare := fun c => (dats m 0 c).share_full fun _ => rfl)
    (howed := fun _ _ => rfl) (V := before m) (hmain := hmain m) (hA := fun _ w => w.elim0)
    (R := arrays) (hR := arrays_sub) (Y := final m)
    (hin := fun c => Entails.of_eq (congrArg (Pipeline.Ends cfg0.spec copySem arrays c) (if_pos rfl).symm))
    (hout := fun c => Entails.of_eq (congrArg (Pipeline.Ends cfg0.spec copySem arrays c) (if_neg (by decide))))
    (hQ' := fun r h => ⟨fun c => ⟨((h.1 c).2.1 main_v0 (by decide)).trans (final_v0 m c),
      ((h.1 c).2.1 main_arg0 (by decide)).trans (final_arg0 m c), ((h.1 c).2.1 main_arg1 (by decide)).trans (final_arg1 m c)⟩, h.2⟩)

end Cert.KernelIdeal.Hand

end
-- ==== Proof.ReferenceValue.lean ====
/-
  The reference's value, read row by row: joining the stack without its first 1024 rows and the new rows, one below
  the other, is the shifted stack that the kernel leaves (`Cert.KernelIdeal.Hand.shifted`).
-/
module

public import proofs.«01_k».proof.Proof.Gen.ReferenceIdeal
public import proofs.«01_k».proof.Proof.KernelIdealRun
public import Idealize.ShloMosaic.Lib.Pipeline.Value

@[expose] public section

noncomputable section

namespace Cert.ReferenceIdeal.Hand

open Cert.ReferenceIdeal Cert.ReferenceIdeal.Gen Idealize.ShloMosaic
open Cert.KernelIdeal.Hand (shifted)

variable {F : FTy → Type} [FloatOps F]

/-- The reference's joined array is the shifted stack: rows `0 ≤ r < 98976` come from the sliced stack, which
    reads 1024 rows further down, and the others from the new rows. -/
theorem joined_eq (rows : S1024x128.Idx → Elt F .f32) (stack : S100000x128.Idx → Elt F .f32) :
    concatenate S100000x128 0 [⟨S98976x128, extractStridedSlice S98976x128 ![1024, 0] stack slices_S100000x128_S98976x128_1024_0⟩,
        ⟨S1024x128, rows⟩] concatenates_S98976x128_S1024x128_S100000x128_d0
      = shifted rows stack := by
  funext j
  have h0 : (j 0).val < 100000 := (j 0).isLt
  unfold shifted
  by_cases h : (j 0).val < 98976
  · rw [dif_pos h]
    refine (concatenate_pair_apply_left (s₁ := S98976x128) (s₂ := S1024x128) 0 _ _ _ j rfl
      (fun | ⟨0, _⟩ => ⟨(j 0).val, h⟩ | ⟨1, _⟩ => j 1) (fun | ⟨0, _⟩ => rfl | ⟨1, _⟩ => rfl)).trans ?_
    exact extractStridedSlice_apply _ _ _ _ _ (fun | ⟨0, _⟩ => Nat.add_comm _ _ | ⟨1, _⟩ => (Nat.zero_add _).symm)
  · rw [dif_neg h]
    exact concatenate_pair_apply_right (s₁ := S98976x128) (s₂ := S1024x128) 0 _ _ _ j rfl rfl _
      (fun | ⟨0, _⟩ => fun hb => absurd rfl hb | ⟨1, _⟩ => fun _ => rfl) (Nat.sub_add_cancel (Nat.not_lt.mp h))

end Cert.ReferenceIdeal.Hand

end
-- ==== Proof.lean ====
/-
  The certificate: the five claims of `Cert.Claim`, from one run of the kernel (`KernelIdealRun.lean`, stated for any
  float values), the reference's generated run and the equation between their two results (`ReferenceValue.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealRun
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel on bit patterns terminates without a fault, its arguments end unchanged and every counter ends at zero. It
    is the same program as its idealization, whose run holds for any float values. -/
theorem frame_kernel : Cert.quiescent_Kernel := fun m g _ =>
  (θ_run Cert.Kernel.defs _ _).mono (fun _ h => ⟨fun c => (h.1 c).2, h.2⟩) (Cert.KernelIdeal.Hand.run_main (F := Bits) m g)

/-- The same of the kernel on extended reals. -/
theorem frame_kernelIdeal : Cert.quiescent_KernelIdeal := fun m g _ =>
  (θ_run Cert.KernelIdeal.defs _ _).mono (fun _ h => ⟨fun c => (h.1 c).2, h.2⟩) (Cert.KernelIdeal.Hand.run_main m g)

/-- The same of the reference on extended reals, which declares no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- On equal arguments the kernel and the reference, on extended reals, end with equal results: the shifted stack. -/
theorem algebraic : Cert.algebraic_KernelIdeal_ReferenceIdeal := fun m g m' g' _ hagree =>
  ⟨fun c => Cert.KernelIdeal.Hand.shifted (m ((c.tc : Thread _ _).loc Cert.KernelIdeal.main_arg0)) (m ((c.tc : Thread _ _).loc Cert.KernelIdeal.main_arg1)),
    (θ_run Cert.KernelIdeal.defs _ _).mono (fun _ h => h.1) (Cert.KernelIdeal.Hand.run_main m g),
    (θ_run Cert.ReferenceIdeal.defs _ _).mono
      (fun _ h c => ⟨(h c).1.trans (by rw [(hagree c).1, (hagree c).2]; exact Cert.ReferenceIdeal.Hand.joined_eq _ _), (h c).2⟩)
      (Cert.ReferenceIdeal.Value.run m' g')⟩

/-- The certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
